-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_var_t" .f32 0x36400003#32 ((4 / 1398101 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)

variable [Facts]

def fn {F : FTy → Type} [FloatOps F] (main_arg0 : FVec F S16x2048x512 .f32) : IVec S16x2048x512 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  main_v2
-- ==== Kernel.lean ====
abbrev S16x2048x512 : Shape := ⟨3, ![16, 2048, 512]⟩
abbrev S2x2048x512 : Shape := ⟨3, ![2, 2048, 512]⟩
abbrev S2x512 : Shape := ⟨2, ![2, 512]⟩
abbrev S2x1x512 : Shape := ⟨3, ![2, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .local _ .vmem, ⟨0, _⟩ => ⟨S2x2048x512, .f32⟩
  | .local _ .vmem, ⟨1, _⟩ => ⟨S2x2048x512, .f32⟩
  | .local _ .vmem, ⟨2, _⟩ => ⟨S2x2048x512, .f32⟩
  | .local _ .vmem, ⟨3, _⟩ => ⟨S2x2048x512, .f32⟩
  | .local _ .vmem, ⟨4, _⟩ => ⟨S2x2048x512, .f32⟩
  | .local _ .vmem, ⟨5, _⟩ => ⟨S2x2048x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_var_t" => some ((4 / 1398101 : ℝ) : EReal)
  | _ => none
-- ==== ReferenceIdeal.lean ====
abbrev S16x2048x512 : Shape := ⟨3, ![16, 2048, 512]⟩
abbrev S2048 : Shape := ⟨1, ![2048]⟩
abbrev S1x2048x1 : Shape := ⟨3, ![1, 2048, 1]⟩
abbrev S_ : Shape := ⟨0, ![]⟩
abbrev S16x512 : Shape := ⟨2, ![16, 512]⟩
abbrev S16x1x512 : Shape := ⟨3, ![16, 1, 512]⟩
abbrev S257 : Shape := ⟨1, ![257]⟩
abbrev S512 : Shape := ⟨1, ![512]⟩
abbrev S512x1 : Shape := ⟨2, ![512, 1]⟩
abbrev S1x257 : Shape := ⟨2, ![1, 257]⟩
abbrev S512x257 : Shape := ⟨2, ![512, 257]⟩
abbrev S16x2048x257 : Shape := ⟨3, ![16, 2048, 257]⟩
abbrev S1 : Shape := ⟨1, ![1]⟩
abbrev S2048x257 : Shape := ⟨2, ![2048, 257]⟩
abbrev S16x2048x8 : Shape := ⟨3, ![16, 2048, 8]⟩
abbrev S1x1x257 : Shape := ⟨3, ![1, 1, 257]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S2048, .f32⟩
  | .hbm, ⟨2, _⟩ => ⟨S1x2048x1, .f32⟩
  | .hbm, ⟨3, _⟩ => ⟨S16x2048x512, .f32⟩
  | .hbm, ⟨4, _⟩ => ⟨S_, .f32⟩
  | .hbm, ⟨5, _⟩ => ⟨S16x512, .f32⟩
  | .hbm, ⟨6, _⟩ => ⟨S16x1x512, .f32⟩
  | .hbm, ⟨7, _⟩ => ⟨S_, .f32⟩
  | .hbm, ⟨8, _⟩ => ⟨S16x1x512, .f32⟩
  | .hbm, ⟨9, _⟩ => ⟨S16x1x512, .f32⟩
  | .hbm, ⟨10, _⟩ => ⟨S_, .f32⟩
  | .hbm, ⟨11, _⟩ => ⟨S16x512, .f32⟩
  | .hbm, ⟨12, _⟩ => ⟨S16x1x512, .f32⟩
  | .hbm, ⟨13, _⟩ => ⟨S_, .f32⟩
  | .hbm, ⟨14, _⟩ => ⟨S16x1x512, .f32⟩
  | .hbm, ⟨15, _⟩ => ⟨S16x1x512, .f32⟩
  | .hbm, ⟨16, _⟩ => ⟨S16x2048x512, .f32⟩
  | .hbm, ⟨17, _⟩ => ⟨S16x2048x512, .f32⟩
  | .hbm, ⟨18, _⟩ => ⟨S16x2048x512, .f32⟩
  | .hbm, ⟨19, _⟩ => ⟨S16x2048x512, .f32⟩
  | .hbm, ⟨20, _⟩ => ⟨S16x2048x512, .f32⟩
  | .hbm, ⟨21, _⟩ => ⟨S_, .f32⟩
  | .hbm, ⟨22, _⟩ => ⟨S16x512, .f32⟩
  | .hbm, ⟨23, _⟩ => ⟨S16x1x512, .f32⟩
  | .hbm, ⟨24, _⟩ => ⟨S_, .f32⟩
  | .hbm, ⟨25, _⟩ => ⟨S16x1x512, .f32⟩
  | .hbm, ⟨26, _⟩ => ⟨S16x1x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S_, .f32⟩
  | .hbm, ⟨31, _⟩ => ⟨S16x512, .f32⟩
  | .hbm, ⟨32, _⟩ => ⟨S16x1x512, .f32⟩
  | .hbm, ⟨33, _⟩ => ⟨S_, .f32⟩
  | .hbm, ⟨34, _⟩ => ⟨S16x1x512, .f32⟩
  | .hbm, ⟨35, _⟩ => ⟨S16x1x512, .f32⟩
  | .hbm, ⟨36, _⟩ => ⟨S16x1x512, .f32⟩
  | .hbm, ⟨37, _⟩ => ⟨S16x1x512, .f32⟩
  | .hbm, ⟨38, _⟩ => ⟨S16x1x512, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S257, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512x1, .f32⟩
  | .hbm, ⟨49, _⟩ => ⟨S1x257, .f32⟩
  | .hbm, ⟨50, _⟩ => ⟨S512x257, .f32⟩
  | .hbm, ⟨51, _⟩ => ⟨S512x257, .f32⟩
  | .hbm, ⟨52, _⟩ => ⟨S512x257, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S512x257, .f32⟩
  | .hbm, ⟨58, _⟩ => ⟨S512x257, .f32⟩
  | .hbm, ⟨59, _⟩ => ⟨S512x257, .f32⟩
  | .hbm, ⟨60, _⟩ => ⟨S512x257, .f32⟩
  | .hbm, ⟨61, _⟩ => ⟨S16x2048x257, .f32⟩
  | .hbm, ⟨62, _⟩ => ⟨S16x2048x257, .f32⟩
  | .hbm, ⟨63, _⟩ => ⟨S16x2048x257, .f32⟩
  | .hbm, ⟨64, _⟩ => ⟨S16x2048x257, .f32⟩
  | .hbm, ⟨65, _⟩ => ⟨S16x2048x257, .f32⟩
  | .hbm, ⟨66, _⟩ => ⟨S16x2048x257, .f32⟩
  | .hbm, ⟨67, _⟩ => ⟨S16x2048x257, .f32⟩
  | .hbm, ⟨68, _⟩ => ⟨S_, .i32⟩
  | .hbm, ⟨69, _⟩ => ⟨S1, .i32⟩
  | .hbm, ⟨70, _⟩ => ⟨S_, .f32⟩
  | .hbm, ⟨71, _⟩ => ⟨S2048x257, .f32⟩
  | .hbm, ⟨72, _⟩ => ⟨S16x2048x257, .f32⟩
  | .hbm, ⟨73, _⟩ => ⟨S16x2048x8, .f32⟩
  | .hbm, ⟨74, _⟩ => ⟨S16x2048x8, .i32⟩
  | .hbm, ⟨75, _⟩ => ⟨S_, .f32⟩
  | .hbm, ⟨76, _⟩ => ⟨S_, .f32⟩
  | .hbm, ⟨77, _⟩ => ⟨S16x2048x257, .f32⟩
  | .hbm, ⟨78, _⟩ => ⟨S16x2048x257, .i1⟩
  | .hbm, ⟨79, _⟩ => ⟨S_, .f32⟩
  | .hbm, ⟨80, _⟩ => ⟨S_, .f32⟩
  | .hbm, ⟨81, _⟩ => ⟨S16x2048x257, .f32⟩
  | .hbm, ⟨82, _⟩ => ⟨S16x2048x257, .f32⟩
  | .hbm, ⟨83, _⟩ => ⟨S_, .f32⟩
  | .hbm, ⟨84, _⟩ => ⟨S_, .f32⟩
  | .hbm, ⟨85, _⟩ => ⟨S16x2048x257, .f32⟩
  | .hbm, ⟨86, _⟩ => ⟨S16x2048x257, .f32⟩
  | .hbm, ⟨87, _⟩ => ⟨S_, .f32⟩
  | .hbm, ⟨88, _⟩ => ⟨S257, .f32⟩
  | .hbm, ⟨89, _⟩ => ⟨S257, .i1⟩
  | .hbm, ⟨90, _⟩ => ⟨S_, .f32⟩
  | .hbm, ⟨91, _⟩ => ⟨S257, .f32⟩
  | .hbm, ⟨92, _⟩ => ⟨S257, .i1⟩
  | .hbm, ⟨93, _⟩ => ⟨S257, .i1⟩
  | .hbm, ⟨94, _⟩ => ⟨S_, .f32⟩
  | .hbm, ⟨95, _⟩ => ⟨S_, .f32⟩
  | .hbm, ⟨96, _⟩ => ⟨S257, .f32⟩
  | .hbm, ⟨97, _⟩ => ⟨S257, .f32⟩
  | .hbm, ⟨98, _⟩ => ⟨S257, .f32⟩
  | .hbm, ⟨99, _⟩ => ⟨S257, .f32⟩
  | .hbm, ⟨100, _⟩ => ⟨S1x1x257, .f32⟩
  | .hbm, ⟨101, _⟩ => ⟨S16x2048x257, .f32⟩
  | .hbm, ⟨102, _⟩ => ⟨S16x2048x257, .f32⟩
  | .hbm, ⟨103, _⟩ => ⟨S16x2048x512, .f32⟩
  | .hbm, ⟨104, _⟩ => ⟨S257, .f32⟩
  | .hbm, ⟨105, _⟩ => ⟨S1x1x257, .f32⟩
  | .hbm, ⟨106, _⟩ => ⟨S16x2048x257, .f32⟩
  | .hbm, ⟨107, _⟩ => ⟨S16x2048x257, .f32⟩
  | .hbm, ⟨108, _⟩ => ⟨S16x2048x512, .f32⟩
  | .hbm, ⟨109, _⟩ => ⟨S16x2048x512, .f32⟩
  | .hbm, ⟨110, _⟩ => ⟨S_, .f32⟩
  | .hbm, ⟨111, _⟩ => ⟨S16x2048x512, .f32⟩
  | .hbm, ⟨112, _⟩ => ⟨S16x2048x512, .f32⟩
  | .hbm, ⟨113, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_7 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_v56 : Ref sig .tc := ⟨.hbm, 69, rfl⟩
abbrev main_cst_10 : Ref sig .tc := ⟨.hbm, 70, rfl⟩
abbrev main_v57 : Ref sig .tc := ⟨.hbm, 71, rfl⟩
abbrev main_v58 : Ref sig .tc := ⟨.hbm, 72, rfl⟩
abbrev main_values : Ref sig .tc := ⟨.hbm, 73, rfl⟩
abbrev main_indices : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_v62 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_cst_17 : Ref sig .tc := ⟨.hbm, 95, rfl⟩
abbrev main_call2_v0 : Ref sig .tc := ⟨.hbm, 96, rfl⟩
abbrev main_call2_v1 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Proof.Consts.lean ====
/- The float constants the two programs spell, as the extended reals their patterns denote. Only this module unfolds what a
   pattern denotes; the other modules read the constants here. -/
module

public import Idealize.ShloMosaic.PureOps.Ideal

@[expose] public section

noncomputable section

namespace Cert.Consts

open Idealize.ShloMosaic

theorem ofBits_0 : Ideal.ofBits .f32 0x00000000#32 = ((0 : ℝ) : EReal) := by
  simp [Ideal.ofBits, Ideal.ieee, -EReal.coe_mul]

theorem ofBits_1 : Ideal.ofBits .f32 0x3F800000#32 = ((1 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_neg_1 : Ideal.ofBits .f32 0xBF800000#32 = ((-1 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

theorem ofBits_mid : Ideal.ofBits .f32 0x447FE000#32 = ((2047 / 2 : ℝ) : EReal) := by
  simp [Ideal.ofBits, Ideal.ieee, -EReal.coe_mul]; norm_num

theorem ofBits_top : Ideal.ofBits .f32 0x7F800000#32 = (⊤ : EReal) := by
  simp [Ideal.ofBits, Ideal.ieee]

end Cert.Consts

end
-- ==== Proof.Reals.lean ====
/- Arithmetic of the extended reals on reals: a finite sum, a quotient, and the real that a counted position converts to. -/
module

public import Idealize.ShloMosaic.PureOps.Ideal
public import Idealize.ShloMosaic.PureOps.ShapeOps

@[expose] public section

noncomputable section

namespace Cert.Reals

open Idealize.ShloMosaic

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero one is the real quotient. -/
theorem div_real (x : ℝ) {y : ℝ} (hy : y ≠ 0) : Ideal.div (x : EReal) (y : EReal) = ((x / y : ℝ) : EReal) := by
  rw [Ideal.div_coe hy, ← EReal.coe_mul, mul_one_div]

/-- A position below `2³¹`, as a 32-bit word read signed, converts to itself. -/
theorem sitofp_ofNat (n : ℕ) (hn : n < 2 ^ 31) :
    FloatOps.sitofp (F := Ideal) (w := 32) .f32 (BitVec.ofNat 32 n) = ((n : ℝ) : EReal) := by
  show (((BitVec.ofNat 32 n).toInt : ℝ) : EReal) = _
  have h : (BitVec.ofNat 32 n).toInt = (n : ℤ) := by
    rw [BitVec.toInt_eq_toNat_of_lt (by rw [BitVec.toNat_ofNat]; omega), BitVec.toNat_ofNat]; omega
  rw [h]; norm_cast

end Cert.Reals

end
-- ==== Proof.Trend.lean ====
/- The least-squares line through a column of 2048 samples, over the reals: the column's mean, the line's slope with the
   variance of the time index folded into one constant, what is left of a sample when the line is taken away, and why the
   slope is the covariance over the variance however the two are centred. -/
module

public import Mathlib.Analysis.SpecialFunctions.Trigonometric.Basic

@[expose] public section

noncomputable section

namespace Cert.Trend

/-- The mean of a column. -/
def mean (f : ℕ → ℝ) : ℝ := (∑ s : Fin 2048, f s) / 2048

/-- The slope of the least-squares line: the covariance with the centred time index, times the reciprocal of that index's
    variance `(2048² - 1) / 12`. -/
def slope (f : ℕ → ℝ) : ℝ := (∑ s : Fin 2048, f s * ((s : ℕ) - 2047 / 2)) / 2048 * (4 / 1398101)

/-- A sample less the line. -/
def resid (f : ℕ → ℝ) (s : ℕ) : ℝ := f s - (slope f * s + (mean f - slope f * (2047 / 2)))

/-- The seasonal part of an array: none in batch 0, and in the others what is left without the line. -/
def seasonal (X : ℕ → ℕ → ℕ → ℝ) (b s c : ℕ) : ℝ := if b = 0 then 0 else resid (fun s => X b s c) s

theorem sum_time (n : ℕ) : (∑ s : Fin n, ((s : ℕ) : ℝ)) = n * (n - 1) / 2 := by
  induction n with
  | zero => simp
  | succ n ih => rw [Fin.sum_univ_castSucc]; simp only [Fin.val_castSucc, Fin.val_last, ih]; push_cast; ring

theorem sum_time_sq (n : ℕ) : (∑ s : Fin n, ((s : ℕ) : ℝ) ^ 2) = n * (n - 1) * (2 * n - 1) / 6 := by
  induction n with
  | zero => simp
  | succ n ih => rw [Fin.sum_univ_castSucc]; simp only [Fin.val_castSucc, Fin.val_last, ih]; push_cast; ring

/-- The mean of the time index. -/
theorem mean_time : (∑ s : Fin 2048, ((s : ℕ) : ℝ)) / 2048 = 2047 / 2 := by
  rw [sum_time]; norm_num

/-- The centred time index sums to zero. -/
theorem sum_centred : (∑ s : Fin 2048, (((s : ℕ) : ℝ) - 2047 / 2)) = 0 := by
  rw [Finset.sum_sub_distrib, sum_time]; simp; norm_num

/-- The variance of the time index. -/
theorem var_time : (∑ s : Fin 2048, (((s : ℕ) : ℝ) - 2047 / 2) * (((s : ℕ) : ℝ) - 2047 / 2)) / 2048 = 1398101 / 4 := by
  have h : ∀ s : Fin 2048, (((s : ℕ) : ℝ) - 2047 / 2) * (((s : ℕ) : ℝ) - 2047 / 2)
      = ((s : ℕ) : ℝ) ^ 2 - 2047 * ((s : ℕ) : ℝ) + 2047 ^ 2 / 4 := fun s => by ring
  simp only [h, Finset.sum_add_distrib, Finset.sum_sub_distrib, ← Finset.mul_sum, sum_time, sum_time_sq]
  simp; norm_num

/-- Taking a constant from every sample does not change its sum against weights that sum to zero. -/
theorem sum_shift {n : ℕ} (a c : Fin n → ℝ) (μ : ℝ) (hc : ∑ s, c s = 0) : ∑ s, (a s - μ) * c s = ∑ s, a s * c s := by
  simp only [sub_mul, Finset.sum_sub_distrib, ← Finset.mul_sum, hc, mul_zero, sub_zero]

/-- Centring the column as well changes nothing, and dividing by the variance is multiplying by its reciprocal. -/
theorem slope_eq (f : ℕ → ℝ) :
    (∑ s : Fin 2048, (f s - mean f) * (((s : ℕ) : ℝ) - 2047 / 2)) / 2048 / (1398101 / 4) = slope f := by
  rw [sum_shift (fun s : Fin 2048 => f s) _ _ sum_centred, slope, div_eq_mul_inv _ (1398101 / 4 : ℝ), inv_div]

end Cert.Trend

end
-- ==== Proof.RefTrend.lean ====
/- What the reference computes down to the residual: over an array of reals, its mean, its slope by covariance over variance,
   and each sample less the line, index by index. -/
module

public import proofs.«01_k».proof.Proof.Gen.ReferenceIdeal.Read
public import proofs.«01_k».proof.Proof.Consts
public import proofs.«01_k».proof.Proof.Reals
public import proofs.«01_k».proof.Proof.Trend

@[expose] public section

noncomputable section

namespace Cert.ReferenceIdeal.Stages

open Cert.ReferenceIdeal Cert.ReferenceIdeal.Gen Cert.ReferenceIdeal.Read Idealize.ShloMosaic

/-- The array `x0` holds the reals `X`, coordinate by coordinate. -/
def Holds (X : ℕ → ℕ → ℕ → ℝ) (x0 : FVec Ideal S16x2048x512 .f32) : Prop :=
  ∀ i : S16x2048x512.Idx, x0 i = ((X (i 0).val (i 1).val (i 2).val : ℝ) : EReal)

/-- One channel of one batch, as a column over time. -/
abbrev col (X : ℕ → ℕ → ℕ → ℝ) (b c : ℕ) : ℕ → ℝ := fun s => X b s c

theorem time (i : S16x2048x512.Idx) : val_main_v2 (F := Ideal) i = (((i 1).val : ℝ) : EReal) := by
  rw [val_main_v2_apply, val_main_v1_apply]
  exact Reals.sitofp_ofNat (i 1).val (lt_trans (i 1).isLt (by decide))

theorem time_mean (i : S16x1x512.Idx) : val_main_v10 (F := Ideal) i = ((2047 / 2 : ℝ) : EReal) := by
  rw [val_main_v10_apply, val_main_v8_apply, val_main_v7_apply, val_main_v9_apply]
  simp only [time, val_main_cst_1_apply, val_main_cst_2_apply, Ideal.ofBits_def, Ideal.hostDivf_def, Consts.ofBits_0, Consts.ofBits_2048]
  rw [Reals.coe_sum Finset.univ fun s : Fin 2048 => ((s : ℕ) : ℝ), ← EReal.coe_add, zero_add, Reals.div_real _ (by norm_num),
    Trend.mean_time]

theorem time_centred (i : S16x2048x512.Idx) : val_main_v21 (F := Ideal) i = (((i 1).val - 2047 / 2 : ℝ) : EReal) := by
  rw [val_main_v21_apply, time, val_main_v20_apply, time_mean, Ideal.subf_def, ← EReal.coe_sub]

theorem time_centred' (i : S16x2048x512.Idx) : val_main_v14 (F := Ideal) i = (((i 1).val - 2047 / 2 : ℝ) : EReal) := time_centred i

theorem time_var (i : S16x1x512.Idx) : val_main_v26 (F := Ideal) i = ((1398101 / 4 : ℝ) : EReal) := by
  rw [val_main_v26_apply, val_main_v24_apply, val_main_v23_apply, val_main_v25_apply]
  simp only [val_main_v22_apply, time_centred, Ideal.mulf_def, ← EReal.coe_mul, val_main_cst_5_apply, val_main_cst_6_apply,
    Ideal.ofBits_def, Ideal.hostDivf_def, Consts.ofBits_0, Consts.ofBits_2048]
  rw [Reals.coe_sum Finset.univ fun s : Fin 2048 => (((s : ℕ) : ℝ) - 2047 / 2) * (((s : ℕ) : ℝ) - 2047 / 2), ← EReal.coe_add, zero_add,
    Reals.div_real _ (by norm_num), Trend.var_time]

variable {X : ℕ → ℕ → ℕ → ℝ} {x0 : FVec Ideal S16x2048x512 .f32} (hx : Holds X x0)
include hx

theorem mean (i : S16x1x512.Idx) :
    val_main_v6 (F := Ideal) x0 i = ((Trend.mean (col X (i 0).val (i 2).val) : ℝ) : EReal) := by
  rw [val_main_v6_apply, val_main_v4_apply, val_main_v3_apply, val_main_v5_apply]
  simp only [hx _, val_main_cst_apply, val_main_cst_0_apply, Ideal.ofBits_def, Ideal.hostDivf_def, Consts.ofBits_0, Consts.ofBits_2048]
  rw [Reals.coe_sum Finset.univ fun s : Fin 2048 => col X (i 0).val (i 2).val s, ← EReal.coe_add, zero_add, Reals.div_real _ (by norm_num)]
  rfl

theorem slope (i : S16x1x512.Idx) :
    val_main_v27 (F := Ideal) x0 i = ((Trend.slope (col X (i 0).val (i 2).val) : ℝ) : EReal) := by
  rw [val_main_v27_apply, time_var, val_main_v19_apply, val_main_v17_apply, val_main_v16_apply, val_main_v18_apply]
  simp only [val_main_v15_apply, val_main_v12_apply, val_main_v11_apply, mean hx, hx _, time_centred', Ideal.mulf_def, Ideal.subf_def,
    ← EReal.coe_mul, ← EReal.coe_sub, val_main_cst_3_apply, val_main_cst_4_apply,
    Ideal.ofBits_def, Ideal.hostDivf_def, Consts.ofBits_0, Consts.ofBits_2048]
  rw [Reals.coe_sum Finset.univ fun s : Fin 2048 =>
      (col X (i 0).val (i 2).val s - Trend.mean (col X (i 0).val (i 2).val)) * (((s : ℕ) : ℝ) - 2047 / 2),
    ← EReal.coe_add, zero_add, Reals.div_real _ (by norm_num), Reals.div_real _ (by norm_num), Trend.slope_eq]

/-- The residual: the sample less the least-squares line of its column. -/
theorem resid (i : S16x2048x512.Idx) :
    val_main_v34 (F := Ideal) x0 i = ((Trend.resid (col X (i 0).val (i 2).val) (i 1).val : ℝ) : EReal) := by
  rw [val_main_v34_apply, val_main_v33_apply, val_main_v31_apply, val_main_v30_apply, val_main_v32_apply, val_main_v29_apply,
    val_main_v28_apply, slope hx, mean hx, time, time_mean, hx]
  simp only [Ideal.subf_def, Ideal.addf_def, Ideal.mulf_def, ← EReal.coe_mul, ← EReal.coe_sub, ← EReal.coe_add]
  rfl

end Cert.ReferenceIdeal.Stages

end
-- ==== Proof.Dft.lean ====
/- The real discrete Fourier transform of 512 samples inverts, over the reals: 257 cosine and 257 sine sums, weighted once at
   the two ends and twice between, give the samples back. -/
module

public import Mathlib.Analysis.SpecialFunctions.Trigonometric.Basic
public import Mathlib.Analysis.SpecialFunctions.Complex.Log

@[expose] public section

noncomputable section

namespace Cert.Dft

open Real

/-- The angle of sample `n` at frequency `k`. -/
def angle (n k : ℕ) : ℝ := (n * k : ℝ) * (2 * π / 512)

/-- How often a frequency of the half spectrum occurs in the whole. -/
def weight (k : ℕ) : ℝ := if k = 0 ∨ k = 256 then 1 else 2

/-- The cosine sum of a row at frequency `k`. -/
def re (r : ℕ → ℝ) (k : ℕ) : ℝ := ∑ n : Fin 512, r n * cos (angle n k)

/-- The negated sine sum of a row at frequency `k`. -/
def im (r : ℕ → ℝ) (k : ℕ) : ℝ := -∑ n : Fin 512, r n * sin (angle n k)

/-- The cosines of a nonzero multiple of the angle, over the whole circle, sum to zero. -/
theorem sum_cos_full (d : ℤ) (h0 : d ≠ 0) (hd : |d| < 512) :
    ∑ k ∈ Finset.range 512, cos ((k : ℝ) * (d * (2 * π / 512))) = 0 := by
  set φ : ℝ := d * (2 * π / 512) with hφ
  set z : ℂ := Complex.exp (φ * Complex.I) with hz
  have hne : z ≠ 1 := by
    intro h1
    rw [hz, Complex.exp_eq_one_iff] at h1
    obtain ⟨n, hn⟩ := h1
    have h2 : (φ : ℂ) = n * (2 * π) := by
      have := mul_right_cancel₀ Complex.I_ne_zero (a := (φ : ℂ)) (c := (n * (2 * π) : ℂ)) (by rw [hn]; ring)
      exact this
    have h3 : φ = n * (2 * π) := by exact_mod_cast h2
    have h4 : (d : ℝ) = 512 * n := by
      have hp := pi_pos.ne'
      rw [hφ] at h3; field_simp at h3; linarith
    have h5 : d = 512 * n := by exact_mod_cast h4
    rw [h5] at hd h0
    have : n ≠ 0 := by rintro rfl; simp at h0
    rw [abs_lt] at hd; omega
  have hpow : z ^ 512 = 1 := by
    rw [hz, ← Complex.exp_nat_mul, Complex.exp_eq_one_iff]
    exact ⟨d, by rw [hφ]; push_cast; ring⟩
  have hg : ∑ k ∈ Finset.range 512, z ^ k = 0 := by
    have := geom_sum_mul z 512
    rw [hpow, sub_self] at this
    exact (mul_eq_zero.1 this).resolve_right (sub_ne_zero.2 hne)
  have hr := congrArg Complex.re hg
  rw [Complex.re_sum, Complex.zero_re] at hr
  rw [← hr]
  refine Finset.sum_congr rfl fun k _ => ?_
  rw [hz, ← Complex.exp_nat_mul, show ((k : ℕ) : ℂ) * (φ * Complex.I) = ((k * φ : ℝ) : ℂ) * Complex.I by push_cast; ring,
    Complex.exp_ofReal_mul_I_re]

/-- A sum over 512 frequencies of what is symmetric about the middle, folded onto the half spectrum. -/
theorem sum_fold (g : ℕ → ℝ) (hg : ∀ k, 1 ≤ k → k ≤ 255 → g (512 - k) = g k) :
    ∑ k : Fin 257, weight k * g k = ∑ k ∈ Finset.range 512, g k := by
  have h1 : ∑ k : Fin 257, weight k * g k = g 0 + ∑ k ∈ Finset.range 255, 2 * g (k + 1) + g 256 := by
    rw [Fin.sum_univ_eq_sum_range (fun k => weight k * g k) 257, Finset.sum_range_succ, Finset.sum_range_succ']
    have h2 : ∀ k ∈ Finset.range 255, weight (k + 1) * g (k + 1) = 2 * g (k + 1) := fun k hk => by
      have := Finset.mem_range.1 hk
      rw [weight, if_neg (by omega)]
    rw [Finset.sum_congr rfl h2]
    simp [weight]; ring
  have h3 : ∑ k ∈ Finset.range 512, g k
      = (∑ k ∈ Finset.range 255, g (k + 1) + g 0 + g 256) + ∑ k ∈ Finset.range 255, g (257 + k) := by
    rw [show 512 = 257 + 255 by norm_num, Finset.sum_range_add, Finset.sum_range_succ _ 256, Finset.sum_range_succ' _ 255]
  have h4 : ∑ k ∈ Finset.range 255, g (257 + k) = ∑ k ∈ Finset.range 255, g (k + 1) := by
    rw [← Finset.sum_range_reflect]
    refine Finset.sum_congr rfl fun k hk => ?_
    have := Finset.mem_range.1 hk
    rw [← hg (k + 1) (by omega) (by omega)]
    congr 1; omega
  rw [h1, h3, h4, ← Finset.mul_sum]; ring

/-- The weighted cosines of the difference of two samples' angles: 512 on the diagonal, zero off it. -/
theorem sum_weight (n m : ℕ) (hn : n < 512) (hm : m < 512) :
    ∑ k : Fin 257, weight k * cos (angle m k - angle n k) = if m = n then 512 else 0 := by
  have hc : ∀ k : ℕ, cos (angle m k - angle n k) = cos ((k : ℝ) * ((((m : ℤ) - n : ℤ) : ℝ) * (2 * π / 512))) := fun k => by
    rw [angle, angle]; push_cast; congr 1; ring
  rw [sum_fold (fun k => cos (angle m k - angle n k))]
  · simp only [hc]
    split
    · next h => subst h; simp
    · next h => exact sum_cos_full _ (by omega) (by rw [abs_lt]; omega)
  · intro k h1 h2
    rw [hc, hc, Nat.cast_sub (by omega)]
    set e : ℤ := (m : ℤ) - n
    rw [show (((512 : ℕ) : ℝ) - k) * ((e : ℝ) * (2 * π / 512)) = e * (2 * π) - k * (e * (2 * π / 512)) by push_cast; ring,
      cos_int_mul_two_pi_sub]

/-- THE INVERSION: the weighted cosine and sine sums of a row's transform give the row back. -/
theorem inverse (r : ℕ → ℝ) (n : ℕ) (hn : n < 512) :
    (∑ k : Fin 257, re r k * weight k * cos (angle n k) - ∑ k : Fin 257, im r k * weight k * sin (angle n k)) / 512 = r n := by
  have h1 : (∑ k : Fin 257, re r k * weight k * cos (angle n k) - ∑ k : Fin 257, im r k * weight k * sin (angle n k))
      = ∑ m : Fin 512, r m * ∑ k : Fin 257, weight k * cos (angle m k - angle n k) := by
    rw [← Finset.sum_sub_distrib]
    simp only [re, im, neg_mul, sub_neg_eq_add, Finset.sum_mul, Finset.mul_sum, ← Finset.sum_add_distrib]
    rw [Finset.sum_comm]
    refine Finset.sum_congr rfl fun m _ => Finset.sum_congr rfl fun k _ => ?_
    rw [cos_sub]; ring
  rw [h1, Finset.sum_congr rfl fun m _ => by rw [sum_weight n m hn m.isLt],
    Finset.sum_eq_single (⟨n, hn⟩ : Fin 512)]
  · simp
  · intro m _ hm; rw [if_neg fun h => hm (Fin.ext h), mul_zero]
  · intro h; exact absurd (Finset.mem_univ _) h

end Cert.Dft

end
-- ==== Proof.RefDft.lean ====
/- What the reference's forward transform computes: the angles, the cosine and sine tables, and each frequency's real part,
   imaginary part and magnitude, over an array of reals; with the weight of each frequency in the transform back. -/
module

public import proofs.«01_k».proof.Proof.RefTrend
public import proofs.«01_k».proof.Proof.Dft

@[expose] public section

noncomputable section

namespace Cert.ReferenceIdeal.Stages

open Cert.ReferenceIdeal Cert.ReferenceIdeal.Gen Cert.ReferenceIdeal.Read Idealize.ShloMosaic

/-- The residuals of one time step of one batch, as a row over the channels. -/
abbrev row (X : ℕ → ℕ → ℕ → ℝ) (b s : ℕ) : ℕ → ℝ := fun c => Trend.resid (col X b c) s

/-- The angle of one step, in the program's shape: twice the arc cosine of −1, over 512. -/
theorem step (i : S_.Idx) : val_main_v44 (F := Ideal) i = ((2 * Real.pi / 512 : ℝ) : EReal) := by
  rw [val_main_v44_apply, val_main_v43_apply, val_main_v37_apply, val_main_cst_7_apply, val_main_cst_8_apply, val_main_cst_9_apply]
  simp only [Ideal.ofBits_def, Consts.ofBits_neg_1, Consts.ofBits_2, Consts.ofBits_512, Ideal.hostUnary_acos_def, Ideal.acos_coe,
    Ideal.hostDivf_def, Ideal.mulf_def]
  rw [if_pos ⟨le_refl _, by norm_num⟩, Real.arccos_neg_one, ← EReal.coe_mul, Reals.div_real _ (by norm_num)]

theorem angle (i : S512x257.Idx) : val_main_v46 (F := Ideal) i = ((Dft.angle (i 0).val (i 1).val : ℝ) : EReal) := by
  rw [val_main_v46_apply, val_main_v42_apply, val_main_v40_apply, val_main_v38_apply, val_main_v41_apply, val_main_v39_apply,
    val_main_v45_apply, step]
  have hn : val_main_v36 (F := Ideal) (idx_main_v38 (idx_main_v40 i)) = (((i 0).val : ℝ) : EReal) :=
    Reals.sitofp_ofNat (i 0).val (lt_trans (i 0).isLt (by decide))
  have hk : val_main_v35 (F := Ideal) (idx_main_v39 (idx_main_v41 i)) = (((i 1).val : ℝ) : EReal) :=
    Reals.sitofp_ofNat (i 1).val (lt_trans (i 1).isLt (by decide))
  rw [hn, hk, Ideal.mulf_def, Ideal.mulf_def, ← EReal.coe_mul, ← EReal.coe_mul]
  rfl

theorem cos (i : S512x257.Idx) : val_main_v47 (F := Ideal) i = ((Real.cos (Dft.angle (i 0).val (i 1).val) : ℝ) : EReal) := by
  rw [val_main_v47_apply, angle, Ideal.hostUnary_cos_def, Ideal.cos_coe]

theorem sin (i : S512x257.Idx) : val_main_v48 (F := Ideal) i = ((Real.sin (Dft.angle (i 0).val (i 1).val) : ℝ) : EReal) := by
  rw [val_main_v48_apply, angle, Ideal.hostUnary_sin_def, Ideal.sin_coe]

/-- The weight of a frequency: 1 at the first and the last, 2 between. -/
theorem weight (i : S257.Idx) : val_main_v69 (F := Ideal) i = ((Dft.weight (i 0).val : ℝ) : EReal) := by
  have hk : val_main_v35 (F := Ideal) i = (((i 0).val : ℝ) : EReal) :=
    Reals.sitofp_ofNat (i 0).val (lt_trans (i 0).isLt (by decide))
  rw [val_main_v69_apply, val_main_v68_apply, val_main_v65_apply, val_main_v67_apply, val_main_v64_apply, val_main_v66_apply,
    val_main_call2_v0_apply, val_main_call2_v1_apply, hk]
  simp only [val_main_cst_14_apply, val_main_cst_15_apply, val_main_cst_16_apply, val_main_cst_17_apply, Ideal.ofBits_def,
    Consts.ofBits_0, Consts.ofBits_1, Consts.ofBits_2, Consts.ofBits_256, Ideal.cmpf_def, Ideal.cmp]
  have h0 : (((i 0).val : ℝ) : EReal) = ((0 : ℝ) : EReal) ↔ (i 0).val = 0 := by rw [EReal.coe_eq_coe_iff]; norm_cast
  have h1 : (((i 0).val : ℝ) : EReal) = ((256 : ℝ) : EReal) ↔ (i 0).val = 256 := by rw [EReal.coe_eq_coe_iff]; norm_cast
  simp only [h0, h1, Dft.weight]
  by_cases a : (i 0).val = 0 <;> by_cases b : (i 0).val = 256 <;> simp [a, b, Scalar.select, IntOp.ori]

variable {X : ℕ → ℕ → ℕ → ℝ} {x0 : FVec Ideal S16x2048x512 .f32} (hx : Holds X x0)
include hx

theorem re (i : S16x2048x257.Idx) :
    val_main_v49 (F := Ideal) x0 i = ((Dft.re (row X (i 0).val (i 1).val) (i 2).val : ℝ) : EReal) := by
  rw [val_main_v49_apply]
  simp only [resid hx, cos, ← EReal.coe_mul]
  exact Reals.coe_sum Finset.univ fun n : Fin 512 => row X (i 0).val (i 1).val n * Real.cos (Dft.angle n (i 2).val)

theorem im (i : S16x2048x257.Idx) :
    val_main_v51 (F := Ideal) x0 i = ((Dft.im (row X (i 0).val (i 1).val) (i 2).val : ℝ) : EReal) := by
  rw [val_main_v51_apply, val_main_v50_apply]
  simp only [resid hx, sin, ← EReal.coe_mul]
  rw [Reals.coe_sum Finset.univ fun n : Fin 512 => row X (i 0).val (i 1).val n * Real.sin (Dft.angle n (i 2).val)]
  exact (EReal.coe_neg _).symm

/-- The magnitude of a frequency: the root of the sum of the two squares. -/
theorem freq (i : S16x2048x257.Idx) :
    val_main_v55 (F := Ideal) x0 i = ((Real.sqrt (Dft.re (row X (i 0).val (i 1).val) (i 2).val * Dft.re (row X (i 0).val (i 1).val) (i 2).val
      + Dft.im (row X (i 0).val (i 1).val) (i 2).val * Dft.im (row X (i 0).val (i 1).val) (i 2).val) : ℝ) : EReal) := by
  rw [val_main_v55_apply, val_main_v54_apply, val_main_v52_apply, val_main_v53_apply, re hx, im hx, Ideal.mulf_def, Ideal.mulf_def,
    Ideal.addf_def, ← EReal.coe_mul, ← EReal.coe_mul, ← EReal.coe_add, Ideal.hostUnary_sqrt_def, Ideal.sqrt_coe,
    if_neg (not_lt.2 (add_nonneg (mul_self_nonneg _) (mul_self_nonneg _)))]

end Cert.ReferenceIdeal.Stages

end
-- ==== Proof.RefMask.lean ====
/- The reference's threshold is zero, and what its mask takes away. The magnitudes of batch 0 are overwritten by zeros and no
   magnitude is negative, so the least of the largest magnitudes is zero; a frequency at or below it belongs to batch 0, or has
   both its parts zero already. -/
module

public import proofs.«01_k».proof.Proof.RefDft
public import Idealize.ShloMosaic.Lib.Routing.OpsSet
public import Idealize.ShloMosaic.PureOps.Ideal.Laws

@[expose] public section

noncomputable section

namespace Cert.ReferenceIdeal.Stages

open Cert.ReferenceIdeal Cert.ReferenceIdeal.Gen Cert.ReferenceIdeal.Read Idealize.ShloMosaic Idealize.ShloMosaic.Routing

/-! ## The overwritten batch -/

/-- The update's start index is zero on every axis: the one index word is zero. -/
theorem start (k : S2048x257.Idx) (a : Fin S16x2048x257.rank) :
    scatter_S16x2048x257_S1_S2048x257_01_0_0_0.start k (val_main_v56 (F := Ideal)) a = 0 := by
  unfold ScatterDims.start
  split
  · rw [val_main_v56_apply]; rfl
  · rfl

theorem window0 (k : S2048x257.Idx) : scatter_S16x2048x257_S1_S2048x257_01_0_0_0.window k 0 = 0 := by
  unfold ScatterDims.window
  rw [dif_neg (show ¬(0 : Fin S16x2048x257.rank) ∈ scatter_S16x2048x257_S1_S2048x257_01_0_0_0.sKept by decide)]

theorem window1 (k : S2048x257.Idx) : scatter_S16x2048x257_S1_S2048x257_01_0_0_0.window k 1 = (k 0).val := by
  unfold ScatterDims.window
  rw [dif_pos (show (1 : Fin S16x2048x257.rank) ∈ scatter_S16x2048x257_S1_S2048x257_01_0_0_0.sKept by decide)]
  rfl

theorem window2 (k : S2048x257.Idx) : scatter_S16x2048x257_S1_S2048x257_01_0_0_0.window k 2 = (k 1).val := by
  unfold ScatterDims.window
  rw [dif_pos (show (2 : Fin S16x2048x257.rank) ∈ scatter_S16x2048x257_S1_S2048x257_01_0_0_0.sKept by decide)]
  rfl

theorem update (k : S2048x257.Idx) : val_main_v57 (F := Ideal) k = ((0 : ℝ) : EReal) := by
  rw [val_main_v57_apply, val_main_cst_10_apply, Ideal.ofBits_def, Consts.ofBits_0]

/-- In batch 0 every magnitude is overwritten by zero. -/
theorem overwritten (x0 : FVec Ideal S16x2048x512 .f32) (i : S16x2048x257.Idx) (h : (i 0).val = 0) :
    val_main_v58 (F := Ideal) x0 i = ((0 : ℝ) : EReal) := by
  unfold val_main_v58
  generalize val_main_v55 (F := Ideal) x0 = y
  refine scatter_set_hit scatter_S16x2048x257_S1_S2048x257_01_0_0_0 y _ _ i _ (fun k _ => update k)
    (fun a => match a with | ⟨0, _⟩ => ⟨(i 1).val, (i 1).isLt⟩ | ⟨1, _⟩ => ⟨(i 2).val, (i 2).isLt⟩) ?_
  rw [resultIdx?_eq_some]
  intro a
  rw [start]
  match a with
  | ⟨0, _⟩ => rw [show (⟨0, _⟩ : Fin S16x2048x257.rank) = 0 from rfl, window0, h]; rfl
  | ⟨1, _⟩ => rw [show (⟨1, _⟩ : Fin S16x2048x257.rank) = 1 from rfl, window1]; exact zero_add _
  | ⟨2, _⟩ => rw [show (⟨2, _⟩ : Fin S16x2048x257.rank) = 2 from rfl, window2]; exact zero_add _

/-- In the other batches the magnitudes stay. -/
theorem untouched (x0 : FVec Ideal S16x2048x512 .f32) (i : S16x2048x257.Idx) (h : (i 0).val ≠ 0) :
    val_main_v58 (F := Ideal) x0 i = val_main_v55 (F := Ideal) x0 i := by
  unfold val_main_v58
  generalize val_main_v55 (F := Ideal) x0 = y
  refine scatter_set_miss scatter_S16x2048x257_S1_S2048x257_01_0_0_0 y _ _ i fun k hk => h ?_
  have h0 := (resultIdx?_eq_some _ _ _ _).1 hk 0
  rw [start, window0] at h0
  exact (Int.natCast_inj.1 (by simpa using h0)).symm

/-! ## The largest magnitudes -/

/-- Each of the largest values is a value of the same batch. -/
theorem top_mem (y : FVec Ideal S16x2048x257 .f32) (j : S16x2048x8.Idx) :
    ∃ i : S16x2048x257.Idx, (i 0).val = (j 0).val
      ∧ (Host.topK S16x2048x8 2 (FloatOps.cmpfTotal (F := Ideal) (φ := .f32) .gt) y sliceFits_S16x2048x257_S16x2048x8).1 j = y i := by
  unfold Host.topK Host.sort2
  simp only
  rw [dif_pos (show 2 < S16x2048x257.rank by decide)]
  refine ⟨_, ?_, rfl⟩
  unfold Shape.Idx.along
  rw [Function.update_of_ne (by decide)]
  exact zero_add _

/-- A place among the largest values, in batch 0. -/
def origin : S16x2048x8.Idx := fun a => match a with
  | ⟨0, _⟩ => ⟨0, Nat.succ_pos 15⟩
  | ⟨1, _⟩ => ⟨0, Nat.succ_pos 2047⟩
  | ⟨2, _⟩ => ⟨0, Nat.succ_pos 7⟩

variable {X : ℕ → ℕ → ℕ → ℝ} {x0 : FVec Ideal S16x2048x512 .f32} (hx : Holds X x0)
include hx

theorem magnitude_nonneg (i : S16x2048x257.Idx) : ((0 : ℝ) : EReal) ≤ val_main_v58 (F := Ideal) x0 i := by
  by_cases h : (i 0).val = 0
  · rw [overwritten x0 i h]
  · rw [untouched x0 i h, freq hx]
    exact EReal.coe_le_coe_iff.2 (Real.sqrt_nonneg _)

/-- THE THRESHOLD IS ZERO: no magnitude is below it, and batch 0 has no other. -/
theorem threshold (j : S_.Idx) : val_main_v59 (F := Ideal) x0 j = ((0 : ℝ) : EReal) := by
  unfold val_main_v59
  rw [Host.reduce_eq_fold]
  refine le_antisymm ?_ ?_
  · refine (Finset.fold_min_le _).2 (Or.inr ⟨origin, ?_, ?_⟩)
    · exact Finset.mem_filter.2 ⟨Finset.mem_univ _, funext fun a => a.elim0⟩
    · obtain ⟨i, hi, e⟩ := top_mem (val_main_v58 (F := Ideal) x0) origin
      exact (e.trans (overwritten x0 i hi)).le
  · refine (Finset.le_fold_min _).2 ⟨?_, fun k _ => ?_⟩
    · rw [val_main_cst_11_apply, Ideal.ofBits_def, Consts.ofBits_top]; exact le_top
    · obtain ⟨i, _, e⟩ := top_mem (val_main_v58 (F := Ideal) x0) k
      exact (magnitude_nonneg hx i).trans e.symm.le

/-! ## What the mask takes away -/

/-- Off batch 0 a masked frequency has both its parts zero. -/
theorem parts_zero (i : S16x2048x257.Idx) (h : (i 0).val ≠ 0) (hm : val_main_v58 (F := Ideal) x0 i ≤ ((0 : ℝ) : EReal)) :
    Dft.re (row X (i 0).val (i 1).val) (i 2).val = 0 ∧ Dft.im (row X (i 0).val (i 1).val) (i 2).val = 0 := by
  rw [untouched x0 i h, freq hx, EReal.coe_le_coe_iff] at hm
  have hs := Real.sqrt_eq_zero'.1 (le_antisymm hm (Real.sqrt_nonneg _))
  have h1 := mul_self_nonneg (Dft.re (row X (i 0).val (i 1).val) (i 2).val)
  have h2 := mul_self_nonneg (Dft.im (row X (i 0).val (i 1).val) (i 2).val)
  exact ⟨mul_self_eq_zero.1 (by linarith), mul_self_eq_zero.1 (by linarith)⟩

/-- A part with the mask applied, whichever of the two it is: zero in batch 0, itself in the others. -/
theorem masked (i : S16x2048x257.Idx) (z p : EReal) (hz : z = ((0 : ℝ) : EReal)) (r : ℝ) (hp : p = ((r : ℝ) : EReal))
    (h0 : (i 0).val ≠ 0 → val_main_v58 (F := Ideal) x0 i ≤ ((0 : ℝ) : EReal) → r = 0) :
    Scalar.select (val_main_v61 (F := Ideal) x0 i) z p = (((if (i 0).val = 0 then 0 else r) : ℝ) : EReal) := by
  rw [val_main_v61_apply, val_main_v60_apply, threshold hx, Ideal.cmpf_def, hz, hp]
  by_cases hb : (i 0).val = 0
  · rw [if_pos hb, overwritten x0 i hb]
    simp [Ideal.cmp, Scalar.select]
  · rw [if_neg hb]
    by_cases hm : val_main_v58 (F := Ideal) x0 i ≤ ((0 : ℝ) : EReal)
    · rw [h0 hb hm]; exact ite_self _
    · simp only [Ideal.cmp, Scalar.select, decide_eq_false hm]; rfl

theorem re_masked (i : S16x2048x257.Idx) : val_main_v62 (F := Ideal) x0 i
    = (((if (i 0).val = 0 then 0 else Dft.re (row X (i 0).val (i 1).val) (i 2).val) : ℝ) : EReal) := by
  rw [val_main_v62_apply]
  refine masked hx i _ _ ?_ _ (re hx i) fun hb hm => (parts_zero hx i hb hm).1
  rw [val_main_call0_v1_apply]; exact Consts.ofBits_0

theorem im_masked (i : S16x2048x257.Idx) : val_main_v63 (F := Ideal) x0 i
    = (((if (i 0).val = 0 then 0 else Dft.im (row X (i 0).val (i 1).val) (i 2).val) : ℝ) : EReal) := by
  rw [val_main_v63_apply]
  refine masked hx i _ _ ?_ _ (im hx i) fun hb hm => (parts_zero hx i hb hm).2
  rw [val_main_call1_v1_apply]; exact Consts.ofBits_0

end Cert.ReferenceIdeal.Stages

end
-- ==== Proof.RefValue.lean ====
/- What the reference returns over an array of reals: no seasonal part in batch 0, the whole residual in every other batch,
   and as the trend the sample less the seasonal part. -/
module

public import proofs.«01_k».proof.Proof.RefMask

@[expose] public section

noncomputable section

namespace Cert.ReferenceIdeal.Stages

open Cert.ReferenceIdeal Cert.ReferenceIdeal.Gen Cert.ReferenceIdeal.Read Idealize.ShloMosaic

theorem weights (i : S16x2048x257.Idx) : val_main_v72 (F := Ideal) i = ((Dft.weight (i 2).val : ℝ) : EReal) := by
  rw [val_main_v72_apply, val_main_v71_apply]; exact weight _

theorem weights' (i : S16x2048x257.Idx) : val_main_v77 (F := Ideal) i = ((Dft.weight (i 2).val : ℝ) : EReal) := weights i

variable {X : ℕ → ℕ → ℕ → ℝ} {x0 : FVec Ideal S16x2048x512 .f32} (hx : Holds X x0)
include hx

/-- The transform back gives the residual back, except where everything was masked. -/
theorem seasonal (i : S16x2048x512.Idx) :
    val_main_v82 (F := Ideal) x0 i = ((Trend.seasonal X (i 0).val (i 1).val (i 2).val : ℝ) : EReal) := by
  have h1 : val_main_v74 (F := Ideal) x0 i = ((∑ k : Fin 257,
      (if (i 0).val = 0 then 0 else Dft.re (row X (i 0).val (i 1).val) k) * Dft.weight k * Real.cos (Dft.angle (i 2).val k) : ℝ) : EReal) := by
    rw [val_main_v74_apply]
    simp only [val_main_v73_apply, re_masked hx, weights, cos, Ideal.mulf_def, ← EReal.coe_mul]
    exact Reals.coe_sum Finset.univ fun k : Fin 257 =>
      (if (i 0).val = 0 then 0 else Dft.re (row X (i 0).val (i 1).val) k) * Dft.weight k * Real.cos (Dft.angle (i 2).val k)
  have h2 : val_main_v79 (F := Ideal) x0 i = ((∑ k : Fin 257,
      (if (i 0).val = 0 then 0 else Dft.im (row X (i 0).val (i 1).val) k) * Dft.weight k * Real.sin (Dft.angle (i 2).val k) : ℝ) : EReal) := by
    rw [val_main_v79_apply]
    simp only [val_main_v78_apply, im_masked hx, weights', sin, Ideal.mulf_def, ← EReal.coe_mul]
    exact Reals.coe_sum Finset.univ fun k : Fin 257 =>
      (if (i 0).val = 0 then 0 else Dft.im (row X (i 0).val (i 1).val) k) * Dft.weight k * Real.sin (Dft.angle (i 2).val k)
  rw [val_main_v82_apply, val_main_v80_apply, h1, h2, val_main_v81_apply, val_main_cst_18_apply, Ideal.ofBits_def, Consts.ofBits_512,
    Ideal.subf_def, ← EReal.coe_sub, Ideal.hostDivf_def, Reals.div_real _ (by norm_num), EReal.coe_eq_coe_iff, Trend.seasonal]
  by_cases hb : (i 0).val = 0
  · simp [hb]
  · simp only [if_neg hb]
    exact Dft.inverse (row X (i 0).val (i 1).val) (i 2).val (i 2).isLt

theorem trend (i : S16x2048x512.Idx) : val_main_v83 (F := Ideal) x0 i
    = ((X (i 0).val (i 1).val (i 2).val - Trend.seasonal X (i 0).val (i 1).val (i 2).val : ℝ) : EReal) := by
  rw [val_main_v83_apply, seasonal hx, hx i, Ideal.subf_def, ← EReal.coe_sub]

end Cert.ReferenceIdeal.Stages

end
-- ==== Proof.KernelBlock.lean ====
/- What the kernel computes over one block of two batches: each column's mean and slope, the line they give, and the two
   payloads it stores, index by index, when the block holds reals. -/
module

public import proofs.«01_k».proof.Proof.Gen.KernelIdeal.Skeleton
public import proofs.«01_k».proof.Proof.Consts
public import proofs.«01_k».proof.Proof.Reals
public import proofs.«01_k».proof.Proof.Trend
public import Idealize.ShloMosaic.Lib.Pipeline.Value
public import Idealize.ShloMosaic.Lib.Pointwise.Index
public import Idealize.ShloMosaic.Lib.WordCmp
public import Idealize.ShloMosaic.PureOps.Ideal.Laws

@[expose] public section

noncomputable section

namespace Cert.KernelIdeal.Block

open Cert.KernelIdeal Cert.KernelIdeal.Gen Idealize.ShloMosaic

/-- The sum of every column of a block, divided by the 2048 rows. -/
def average (v : FVec Ideal S2x2048x512 .f32) : FVec Ideal S2x1x512 .f32 :=
  mulf (shapeCast S2x1x512 (multiReduction .add [1] S2x512 v 0x00000000#32 reduces_S2x2048x512_S2x512 (.inl rfl) rfl) shapeCasts_S2x512_S2x1x512)
    (broadcast S2x1x512 (Scalar.ofBits .f32 0x3A000000#32))

/-- The time index of every place of a block. -/
def time : FVec Ideal S2x2048x512 .f32 := sitofp .f32 (iota .tc S2x2048x512 32 [1] iota_S2x2048x512_d1_w32)

/-- The slope of every column. -/
def slope (v : FVec Ideal S2x2048x512 .f32) : FVec Ideal S2x1x512 .f32 :=
  mulf (average (mulf v (subf time (broadcast S2x2048x512 (Scalar.ofBits .f32 0x447FE000#32)))))
    (broadcast S2x1x512 (Named.named κ "inv_var_t" 0x36400003#32))

/-- The line of every column at time zero. -/
def start (v : FVec Ideal S2x2048x512 .f32) : FVec Ideal S2x1x512 .f32 :=
  subf (average v) (mulf (slope v) (broadcast S2x1x512 (Scalar.ofBits .f32 0x447FE000#32)))

/-- The places of a block that lie in batch 0 of the array. -/
def first (i : grid0.Coords) : IVec S2x2048x512 1 :=
  cmpi .eq (addi (broadcast S2x2048x512 (Scalar.muli (BitVec.ofNat 32 (i 0).val) 2#32)) (iota .tc S2x2048x512 32 [0] iota_S2x2048x512_d0_w32))
    (broadcast S2x2048x512 0#32)

/-- The first payload in these terms. -/
theorem pay1_eq (i : grid0.Coords) (v : FVec Ideal S2x2048x512 .f32) :
    k0_pay1 (F := Ideal) i v = select (first i) (broadcast S2x2048x512 (Scalar.ofBits .f32 0x00000000#32))
      (subf v (addf (mulf (broadcastTo S2x2048x512 (slope v) broadcasts_S2x1x512_S2x2048x512) time)
        (broadcastTo S2x2048x512 (start v) broadcasts_S2x1x512_S2x2048x512))) := rfl

theorem average_apply {v : FVec Ideal S2x2048x512 .f32} {Y : ℕ → ℕ → ℕ → ℝ}
    (hv : ∀ y : S2x2048x512.Idx, v y = ((Y (y 0).val (y 1).val (y 2).val : ℝ) : EReal)) (j : S2x1x512.Idx) :
    average v j = ((Trend.mean (fun s => Y (j 0).val s (j 2).val) : ℝ) : EReal) := by
  have h1 : (j 1).val = 0 := by have : (j 1).val < 1 := (j 1).isLt; omega
  have hc := shapeCast_apply (multiReduction .add [1] S2x512 v 0x00000000#32 reduces_S2x2048x512_S2x512 (.inl rfl) rfl)
    shapeCasts_S2x512_S2x1x512 j (ix2 (j 0 : Fin 2) (j 2 : Fin 512)) (by
      rw [Shape.rowMajor_val_two, Shape.rowMajor_val_three]
      show (j 0).val * 512 + (j 2).val = ((j 0).val * 1 + (j 1).val) * 512 + (j 2).val
      rw [h1]; omega)
  have hs : multiReduction .add [1] S2x512 v 0x00000000#32 reduces_S2x2048x512_S2x512 (.inl rfl) rfl (ix2 (j 0 : Fin 2) (j 2 : Fin 512))
      = ((∑ s : Fin 2048, Y (j 0).val s (j 2).val : ℝ) : EReal) := by
    refine (Ideal.multiReduction_add_single v _ reduces_S2x2048x512_S2x512 (.inl rfl) rfl _).trans ?_
    simp only [hv]
    exact Reals.coe_sum Finset.univ fun s : Fin 2048 => Y (j 0).val s (j 2).val
  show FloatOps.mulf _ (Scalar.ofBits .f32 0x3A000000#32) = _
  rw [hc, hs]
  show _ * Ideal.ofBits .f32 0x3A000000#32 = _
  rw [Consts.ofBits_inv_2048, ← EReal.coe_mul, mul_one_div]
  rfl

theorem time_apply (y : S2x2048x512.Idx) : time y = (((y 1).val : ℝ) : EReal) := by
  show FloatOps.sitofp .f32 (iota .tc S2x2048x512 32 [1] iota_S2x2048x512_d1_w32 y) = _
  rw [iota_single_apply]
  exact Reals.sitofp_ofNat (y 1).val (lt_trans (y 1).isLt (by decide))

theorem inv_var : Named.named (F := Ideal) κ "inv_var_t" (φ := .f32) 0x36400003#32 = ((4 / 1398101 : ℝ) : EReal) :=
  IdealRules.named_const.ideal_named_scalar _ _ _ _ rfl

theorem first_apply (i : grid0.Coords) (y : S2x2048x512.Idx) :
    first i y = BitVec.ofBool (decide (2 * (i 0).val + (y 0).val = 0)) := by
  have hi : (i 0).val < 8 := (i 0).isLt
  have hy : (y 0).val < 2 := (y 0).isLt
  have h0 : (iota .tc S2x2048x512 32 [0] iota_S2x2048x512_d0_w32) y = BitVec.ofNat 32 (y 0).val := iota_single_apply _ _ _ _ _ _
  show IntOp.cmpi .eq (BitVec.ofNat 32 (i 0).val * 2#32 + (iota .tc S2x2048x512 32 [0] iota_S2x2048x512_d0_w32) y) 0#32 = _
  rw [h0, WordCmp.cmpi_eq_eq_toNat]
  congr 2
  simp only [BitVec.toNat_add, BitVec.toNat_mul, BitVec.toNat_ofNat]
  refine propext ⟨fun h => ?_, fun h => ?_⟩ <;> omega

variable {v : FVec Ideal S2x2048x512 .f32} {Y : ℕ → ℕ → ℕ → ℝ}
  (hv : ∀ y : S2x2048x512.Idx, v y = ((Y (y 0).val (y 1).val (y 2).val : ℝ) : EReal))
include hv

theorem slope_apply (j : S2x1x512.Idx) : slope v j = ((Trend.slope (fun s => Y (j 0).val s (j 2).val) : ℝ) : EReal) := by
  have h := average_apply (v := mulf v (subf time (broadcast S2x2048x512 (Scalar.ofBits .f32 0x447FE000#32))))
    (Y := fun b s c => Y b s c * ((s : ℝ) - 2047 / 2)) (fun y => by
      show v y * (time y - Ideal.ofBits .f32 0x447FE000#32) = _
      rw [hv, time_apply, Consts.ofBits_mid, ← EReal.coe_sub, ← EReal.coe_mul]) j
  show _ * Named.named (F := Ideal) κ "inv_var_t" (φ := .f32) 0x36400003#32 = _
  rw [h, inv_var, ← EReal.coe_mul]
  rfl

theorem start_apply (j : S2x1x512.Idx) : start v j = ((Trend.mean (fun s => Y (j 0).val s (j 2).val)
    - Trend.slope (fun s => Y (j 0).val s (j 2).val) * (2047 / 2) : ℝ) : EReal) := by
  show average v j - slope v j * Ideal.ofBits .f32 0x447FE000#32 = _
  rw [average_apply hv, slope_apply hv, Consts.ofBits_mid, ← EReal.coe_mul, ← EReal.coe_sub]

omit hv in
/-- A row per column laid over every time index reads that row. -/
theorem row_apply (x : FVec Ideal S2x1x512 .f32) (y : S2x2048x512.Idx) :
    broadcastTo S2x2048x512 x broadcasts_S2x1x512_S2x2048x512 y = x (ix3 (y 0 : Fin 2) (0 : Fin 1) (y 2 : Fin 512)) :=
  broadcastTo_apply x broadcasts_S2x1x512_S2x2048x512 y _ fun a => match a with
    | ⟨0, _⟩ => rfl
    | ⟨1, _⟩ => rfl
    | ⟨2, _⟩ => rfl

/-- The seasonal payload: nothing in batch 0, elsewhere what is left without the line. -/
theorem pay1_apply (i : grid0.Coords) (y : S2x2048x512.Idx) : k0_pay1 (F := Ideal) i v y
    = (((if 2 * (i 0).val + (y 0).val = 0 then 0 else Trend.resid (fun s => Y (y 0).val s (y 2).val) (y 1).val) : ℝ) : EReal) := by
  rw [pay1_eq]
  show Scalar.select (first i y) (Ideal.ofBits .f32 0x00000000#32)
    (v y - (broadcastTo S2x2048x512 (slope v) broadcasts_S2x1x512_S2x2048x512 y * time y
      + broadcastTo S2x2048x512 (start v) broadcasts_S2x1x512_S2x2048x512 y)) = _
  rw [row_apply, row_apply, slope_apply hv, start_apply hv, hv, time_apply, Consts.ofBits_0, ← EReal.coe_mul, ← EReal.coe_add,
    ← EReal.coe_sub, first_apply, WordCmp.select_ofBool]
  by_cases h : 2 * (i 0).val + (y 0).val = 0
  · rw [if_pos h, decide_eq_true h]; rfl
  · rw [if_neg h, decide_eq_false h]; rfl

/-- The trend payload: the sample less the seasonal one. -/
theorem pay2_apply (i : grid0.Coords) (y : S2x2048x512.Idx) : k0_pay2 (F := Ideal) i v y
    = ((Y (y 0).val (y 1).val (y 2).val
      - (if 2 * (i 0).val + (y 0).val = 0 then 0 else Trend.resid (fun s => Y (y 0).val s (y 2).val) (y 1).val) : ℝ) : EReal) := by
  show v y - k0_pay1 (F := Ideal) i v y = _
  rw [pay1_apply hv, hv, ← EReal.coe_sub]

end Cert.KernelIdeal.Block

end
-- ==== Proof.KernelArray.lean ====
/- What the kernel's two result arrays hold after the run, when its argument holds reals: every block two batches of one
   whole-array function, the eight blocks the whole array. -/
module

public import proofs.«01_k».proof.Proof.Gen.KernelIdeal.Value
public import proofs.«01_k».proof.Proof.KernelBlock

@[expose] public section

noncomputable section

namespace Cert.KernelIdeal.Array

open Cert.KernelIdeal Cert.KernelIdeal.Gen Idealize.ShloMosaic Idealize.ShloMosaic.TcCoe
open Idealize.ShloMosaic.Pipeline (Dat Window)

/-- The seasonal part as an array. -/
def seasonalArr (X : ℕ → ℕ → ℕ → ℝ) : FVec Ideal S16x2048x512 .f32 :=
  fun i => ((Trend.seasonal X (i 0).val (i 1).val (i 2).val : ℝ) : EReal)

/-- The trend as an array. -/
def trendArr (X : ℕ → ℕ → ℕ → ℝ) : FVec Ideal S16x2048x512 .f32 :=
  fun i => ((X (i 0).val (i 1).val (i 2).val - Trend.seasonal X (i 0).val (i 1).val (i 2).val : ℝ) : EReal)

theorem zeros : (![0, 0, 0] : Fin 3 → Nat) = fun _ => 0 := funext fun a => by fin_cases a <;> rfl

/-- Every window's block at a point is the point's, along the batches. -/
theorem index_in : ∀ t : Fin cfg0.N, win0_0.index t 0 = (grid0.coords t 0).val ∧ win0_0.index t 1 = 0 ∧ win0_0.index t 2 = 0 :=
  (by decide +kernel : ∀ t : Fin grid0.N, win0_0.index t 0 = (grid0.coords t 0).val ∧ win0_0.index t 1 = 0 ∧ win0_0.index t 2 = 0)
theorem index_seasonal : ∀ t : Fin cfg0.N, win0_1.index t 0 = (grid0.coords t 0).val ∧ win0_1.index t 1 = 0 ∧ win0_1.index t 2 = 0 :=
  (by decide +kernel : ∀ t : Fin grid0.N, win0_1.index t 0 = (grid0.coords t 0).val ∧ win0_1.index t 1 = 0 ∧ win0_1.index t 2 = 0)
theorem index_trend : ∀ t : Fin cfg0.N, win0_2.index t 0 = (grid0.coords t 0).val ∧ win0_2.index t 1 = 0 ∧ win0_2.index t 2 = 0 :=
  (by decide +kernel : ∀ t : Fin grid0.N, win0_2.index t 0 = (grid0.coords t 0).val ∧ win0_2.index t 1 = 0 ∧ win0_2.index t 2 = 0)

/-- Every point is one of the eight, in order. -/
theorem coords_val : ∀ t : Fin cfg0.N, (grid0.coords t 0).val = t.val :=
  (by decide +kernel : ∀ t : Fin grid0.N, (grid0.coords t 0).val = t.val)

variable (m : (ℓ : Loc nD τ sig) → Buf (Elt Ideal) ℓ) {X : ℕ → ℕ → ℕ → ℝ} (c : Dev nD)
  (hx : ∀ i : S16x2048x512.Idx, (m ((c : Thread nD τ).loc main_arg0) : FVec Ideal S16x2048x512 .f32) i = ((X (i 0).val (i 1).val (i 2).val : ℝ) : EReal))

include hx in
/-- The input block at a point holds two batches of the reals. -/
theorem iblk_apply (t : Fin cfg0.N) (y : S2x2048x512.Idx) : (iblk (F := Ideal) m c 0 t : FVec Ideal S2x2048x512 .f32) y
    = ((X (2 * (grid0.coords t 0).val + (y 0).val) (y 1).val (y 2).val : ℝ) : EReal) := by
  obtain ⟨e0, e1, e2⟩ := index_in t
  refine (hx ((win0_0.rect t).emb y)).trans ?_
  rw [win0_0.rect_emb_val t y 0, win0_0.rect_emb_val t y 1, win0_0.rect_emb_val t y 2, e0, e1, e2]
  show ((X ((grid0.coords t 0).val * 2 + (y 0).val) (0 * 2048 + (y 1).val) (0 * 512 + (y 2).val) : ℝ) : EReal) = _
  rw [mul_comm _ 2, zero_mul, zero_mul, zero_add, zero_add]

include hx in
/-- What a point writes back is its two batches of the array. -/
theorem flushed_seasonal (t : Fin cfg0.N) :
    (dats (F := Ideal) m 0 c).flushed 1 t = (win0_1.blk t).view.read (Elt Ideal) (seasonalArr X) := by
  rw [Value.flushed1]
  unfold out0_1
  rw [View.canon_unit_zero zeros, View.ld_unit_zero zeros]
  funext y
  refine (Block.pay1_apply (Y := fun b s k => X (2 * (grid0.coords t 0).val + b) s k) (iblk_apply m c hx t) (grid0.coords t) y).trans ?_
  obtain ⟨e0, e1, e2⟩ := index_seasonal t
  show _ = seasonalArr X ((win0_1.rect t).emb y)
  unfold seasonalArr
  rw [win0_1.rect_emb_val t y 0, win0_1.rect_emb_val t y 1, win0_1.rect_emb_val t y 2, e0, e1, e2]
  show _ = ((Trend.seasonal X ((grid0.coords t 0).val * 2 + (y 0).val) (0 * 2048 + (y 1).val) (0 * 512 + (y 2).val) : ℝ) : EReal)
  rw [mul_comm _ 2, zero_mul, zero_mul, zero_add, zero_add]
  rfl

include hx in
/-- What a point writes back is its two batches of the array. -/
theorem flushed_trend (t : Fin cfg0.N) :
    (dats (F := Ideal) m 0 c).flushed 2 t = (win0_2.blk t).view.read (Elt Ideal) (trendArr X) := by
  rw [Value.flushed2]
  unfold out0_2
  rw [View.canon_unit_zero zeros, View.ld_unit_zero zeros]
  funext y
  refine (Block.pay2_apply (Y := fun b s k => X (2 * (grid0.coords t 0).val + b) s k) (iblk_apply m c hx t) (grid0.coords t) y).trans ?_
  obtain ⟨e0, e1, e2⟩ := index_trend t
  show _ = trendArr X ((win0_2.rect t).emb y)
  unfold trendArr
  rw [win0_2.rect_emb_val t y 0, win0_2.rect_emb_val t y 1, win0_2.rect_emb_val t y 2, e0, e1, e2]
  show _ = ((X ((grid0.coords t 0).val * 2 + (y 0).val) (0 * 2048 + (y 1).val) (0 * 512 + (y 2).val)
    - Trend.seasonal X ((grid0.coords t 0).val * 2 + (y 0).val) (0 * 2048 + (y 1).val) (0 * 512 + (y 2).val) : ℝ) : EReal)
  rw [mul_comm _ 2, zero_mul, zero_mul, zero_add, zero_add]
  rfl

/-- The point whose block an array index lies in. -/
theorem point (i : S16x2048x512.Idx) : ∃ t : Fin cfg0.N, (grid0.coords t 0).val = (i 0).val / 2 := by
  have h : (i 0).val < 16 := (i 0).isLt
  have hN : cfg0.N = 8 := N_0
  exact ⟨⟨(i 0).val / 2, by omega⟩, coords_val _⟩

/-- The points' blocks fill the array. -/
theorem cover_seasonal (i : S16x2048x512.Idx) :
    ∃ t : Fin cfg0.N, (cfg0.win 1).flush t = true ∧ i ∈ ((cfg0.win 1).blk t).view.set := by
  obtain ⟨t, ht⟩ := point i
  refine ⟨t, flush0_1 t, ?_⟩
  show i ∈ ((View.whole main_v0_0).slice (win0_1.rect t)).set
  rw [View.set_slice_whole, Rect.mem_set_unit]
  obtain ⟨e0, e1, e2⟩ := index_seasonal t
  have h1 : (i 1 : Nat) < 2048 := (i 1).isLt
  have h2 : (i 2 : Nat) < 512 := (i 2).isLt
  intro a
  match a with
  | ⟨0, _⟩ =>
    show win0_1.index t 0 * 2 ≤ (i 0 : Nat) ∧ (i 0 : Nat) < win0_1.index t 0 * 2 + 2
    rw [e0, ht]; omega
  | ⟨1, _⟩ =>
    show win0_1.index t 1 * 2048 ≤ (i 1 : Nat) ∧ (i 1 : Nat) < win0_1.index t 1 * 2048 + 2048
    rw [e1]; omega
  | ⟨2, _⟩ =>
    show win0_1.index t 2 * 512 ≤ (i 2 : Nat) ∧ (i 2 : Nat) < win0_1.index t 2 * 512 + 512
    rw [e2]; omega

/-- The points' blocks fill the array. -/
theorem cover_trend (i : S16x2048x512.Idx) :
    ∃ t : Fin cfg0.N, (cfg0.win 2).flush t = true ∧ i ∈ ((cfg0.win 2).blk t).view.set := by
  obtain ⟨t, ht⟩ := point i
  refine ⟨t, flush0_2 t, ?_⟩
  show i ∈ ((View.whole main_v0_1).slice (win0_2.rect t)).set
  rw [View.set_slice_whole, Rect.mem_set_unit]
  obtain ⟨e0, e1, e2⟩ := index_trend t
  have h1 : (i 1 : Nat) < 2048 := (i 1).isLt
  have h2 : (i 2 : Nat) < 512 := (i 2).isLt
  intro a
  match a with
  | ⟨0, _⟩ =>
    show win0_2.index t 0 * 2 ≤ (i 0 : Nat) ∧ (i 0 : Nat) < win0_2.index t 0 * 2 + 2
    rw [e0, ht]; omega
  | ⟨1, _⟩ =>
    show win0_2.index t 1 * 2048 ≤ (i 1 : Nat) ∧ (i 1 : Nat) < win0_2.index t 1 * 2048 + 2048
    rw [e1]; omega
  | ⟨2, _⟩ =>
    show win0_2.index t 2 * 512 ≤ (i 2 : Nat) ∧ (i 2 : Nat) < win0_2.index t 2 * 512 + 512
    rw [e2]; omega

include hx

/-- The first result array ends holding the seasonal part, -/
theorem final_seasonal : (dats (F := Ideal) m 0 c).arrAt 1 cfg0.N = seasonalArr X :=
  (dats (F := Ideal) m 0 c).arrAt_eq_of_cover 1 (seasonalArr X) (fun t _ => flushed_seasonal m c hx t) cover_seasonal

/-- and the second the trend. -/
theorem final_trend : (dats (F := Ideal) m 0 c).arrAt 2 cfg0.N = trendArr X :=
  (dats (F := Ideal) m 0 c).arrAt_eq_of_cover 2 (trendArr X) (fun t _ => flushed_trend m c hx t) cover_trend

end Cert.KernelIdeal.Array

end
-- ==== Proof.Equation.lean ====
/- The equation of the two programs: what the precondition says of the argument, the reals it then holds, and both programs'
   results as the same functions of those reals. -/
module

public import proofs.«01_k».proof.Defs
public import proofs.«01_k».proof.Proof.Gen.Pre_finite
public import proofs.«01_k».proof.Proof.Gen.ReferenceIdeal.Run
public import proofs.«01_k».proof.Proof.RefValue
public import proofs.«01_k».proof.Proof.KernelArray

@[expose] public section

noncomputable section

namespace Cert.Equation

open Idealize.ShloMosaic Idealize.ShloMosaic.TcCoe Idealize.SL.Sem
open Cert.KernelIdeal (S16x2048x512)

/-- A value the precondition admits is a real. -/
theorem real_of_finite (x : EReal) (h : max x (-x) < ⊤) : ((x.toReal : ℝ) : EReal) = x := by
  refine EReal.coe_toReal (fun e => ?_) (fun e => ?_)
  · rw [e] at h; exact absurd h (by simp)
  · rw [e] at h; exact absurd h (by simp)

/-- The precondition at one place. -/
theorem finite_apply [Cert.Pre_finite.Facts] (x : FVec Ideal S16x2048x512 .f32) (i : S16x2048x512.Idx)
    (h : Cert.Pre_finite.fn (F := Ideal) x i = 1#1) : max (x i) (-(x i)) < ⊤ := by
  have h' : BitVec.ofBool (decide (max (x i) (-(x i)) < Ideal.ofBits .f32 0x7F800000#32)) = 1#1 := h
  rw [Consts.ofBits_top] at h'
  by_contra hn
  rw [decide_eq_false hn] at h'
  exact absurd h' (by decide)

/-- The reals an array holds, read by position. -/
def reals (x : FVec Ideal S16x2048x512 .f32) (b s k : ℕ) : ℝ :=
  if h : b < 16 ∧ s < 2048 ∧ k < 512 then (x (ix3 ⟨b, h.1⟩ ⟨s, h.2.1⟩ ⟨k, h.2.2⟩)).toReal else 0

theorem holds [Cert.Pre_finite.Facts] (x : FVec Ideal S16x2048x512 .f32) (h : ∀ i, Cert.Pre_finite.fn (F := Ideal) x i = 1#1)
    (i : S16x2048x512.Idx) : x i = ((reals x (i 0).val (i 1).val (i 2).val : ℝ) : EReal) := by
  unfold reals
  rw [dif_pos ⟨(i 0).isLt, (i 1).isLt, (i 2).isLt⟩]
  have e : ix3 (⟨(i 0).val, (i 0).isLt⟩ : Fin 16) (⟨(i 1).val, (i 1).isLt⟩ : Fin 2048) (⟨(i 2).val, (i 2).isLt⟩ : Fin 512) = i := ix3_eta i
  exact (real_of_finite (x i) (finite_apply x i (h i))).symm.trans (by rw [← e]; rfl)

/-- The reals one device's argument holds. -/
abbrev argument (m : (ℓ : Loc Cert.KernelIdeal.nD Cert.KernelIdeal.τ Cert.KernelIdeal.sig) → Buf (Elt Ideal) ℓ)
    (c : Dev Cert.KernelIdeal.nD) : ℕ → ℕ → ℕ → ℝ := reals (m ((c.tc : Thread Cert.KernelIdeal.nD Cert.KernelIdeal.τ).loc Cert.KernelIdeal.main_arg0))

/-- The reference's seasonal result over an argument of reals is the array the kernel leaves. -/
theorem reference_seasonal {X : ℕ → ℕ → ℕ → ℝ} {x : FVec Ideal S16x2048x512 .f32} (hx : Cert.ReferenceIdeal.Stages.Holds X x) :
    Cert.ReferenceIdeal.Read.val_main_v82 (F := Ideal) x = Cert.KernelIdeal.Array.seasonalArr X :=
  funext (Cert.ReferenceIdeal.Stages.seasonal hx)

/-- And so is its trend. -/
theorem reference_trend {X : ℕ → ℕ → ℕ → ℝ} {x : FVec Ideal S16x2048x512 .f32} (hx : Cert.ReferenceIdeal.Stages.Holds X x) :
    Cert.ReferenceIdeal.Read.val_main_v83 (F := Ideal) x = Cert.KernelIdeal.Array.trendArr X :=
  funext (Cert.ReferenceIdeal.Stages.trend hx)

/-- From arguments that agree and are finite, the kernel and the reference end with the same two arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  have hx := fun c => holds _ fun i => congrFun (hpre c) i
  refine ⟨fun c => Cert.KernelIdeal.Array.seasonalArr (argument m c), fun c => Cert.KernelIdeal.Array.trendArr (argument m c), ?_, ?_⟩
  · refine (θ_run Cert.KernelIdeal.defs _ _).mono (fun _ h c => ⟨(h c).1.trans ?_, (h c).2.1.trans ?_, (h c).2.2⟩)
      (Cert.KernelIdeal.Value.run_blocks (F := Ideal) m ρ)
    · exact Cert.KernelIdeal.Array.final_seasonal m c (hx c)
    · exact Cert.KernelIdeal.Array.final_trend m c (hx c)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.ReferenceIdeal.Read.val_main_v82_eq _).trans ?_
      rw [StableHlo.launchContents_devRef, hagree c]
      exact reference_seasonal (hx c)
    · refine (Cert.ReferenceIdeal.Read.val_main_v83_eq _).trans ?_
      rw [StableHlo.launchContents_devRef, hagree c]
      exact reference_trend (hx c)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its argument as it was, and ends quiescent. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "inv_var_t" .f32 0x36400003#32 ((4 / 1398101 : ℝ) : EReal) rfl,
    Cert.Equation.algebraic⟩

end Cert.Proof

end
